-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "aoma" .f32 0x3A82F0E1#32 ((999 / 1000000 : ℝ) : EReal)
  ∧ IdealRules.named_const.Statement Cert.KernelIdeal.κ "a256" .f32 0x3F4627AC#32 ((774042818860508284169126494400007598449043614535521530087047009646779559164820410689587683557450985634140921571292678638274086378001310420392593129889119280125987529993828674889646084818669635090436826694166827513506710930913431057588904568989858851780845695720084698755801174216924413728791570645555478588372478254403795765558105161793602149537451781515701459448459799313746588686199012433440533478989080541440635515237746099764893188035095958718454336685857257924336002333149607628401133464673586244211852367758375412591803228835118132092268444605310264238880419483418240542411237782400963834583209771985448398080135903219849818954343802825975920332677786631016705331889774032019437878466881660760183447022873793016452270634436039054661758731992801733876512639744001 / 1000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  ∧ IdealRules.named_const.Statement Cert.KernelIdeal.κ "a" .f32 0x3F7FBE77#32 ((999 / 1000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_4) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x2048 .f32) (main_arg1 : FVec F S2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_cst_2 : FVec F S_ .f32 := constant S_ .f32 0x7F800000#32
  let main_v9 : FVec F S2048 .f32 := broadcastInDim S2048 ![] bcast_S_S2048 main_cst_2
  let main_v10 : IVec S2048 1 := cmpf .olt main_arg2 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_cst_4 : FVec F S_ .f32 := constant S_ .f32 0xB727C5AC#32
  let main_v13 : FVec F S2048 .f32 := broadcastInDim S2048 ![] bcast_S_S2048 main_cst_4
  let main_v14 : IVec S2048 1 := cmpf .ogt main_arg2 main_v13
  let main_c_5 : IVec S_ 1 := constantI S_ 1 1#1
  let main_v15 : IVec S_ 1 := (fun x v => Host.reduce IntOp.andi x v reducesTo_S2048_S_d0 h_S_) main_v14 main_c_5
  fn_part1 (F := F) main_v12 main_v15
-- ==== Kernel.lean ====
abbrev S16384x2048 : Shape := ⟨2, ![16384, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x264 : Shape := ⟨2, ![256, 264]⟩
abbrev S256x128 : Shape := ⟨2, ![256, 128]⟩
abbrev S1x2048 : Shape := ⟨2, ![1, 2048]⟩
abbrev S256x1024 : Shape := ⟨2, ![256, 1024]⟩
abbrev S1x1024 : Shape := ⟨2, ![1, 1024]⟩
abbrev S8x1024 : Shape := ⟨2, ![8, 1024]⟩
abbrev S264x1024 : Shape := ⟨2, ![264, 1024]⟩
abbrev S1024 : Shape := ⟨1, ![1024]⟩

abbrev nBuf : Space → Nat
  | .hbm => 55
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256, .f32⟩
  | .hbm, ⟨12, _⟩ => ⟨S1x256, .f32⟩
  | .hbm, ⟨13, _⟩ => ⟨S256x256, .f32⟩
  | .hbm, ⟨14, _⟩ => ⟨S256x256, .f32⟩
  | .hbm, ⟨15, _⟩ => ⟨S256x256, .i1⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x256, .f32⟩
  | .hbm, ⟨36, _⟩ => ⟨S256x256, .f32⟩
  | .hbm, ⟨37, _⟩ => ⟨S256x264, .f32⟩
  | .hbm, ⟨38, _⟩ => ⟨S256x1, .bf16⟩
  | .hbm, ⟨39, _⟩ => ⟨S256x1, .f32⟩
  | .hbm, ⟨40, _⟩ => ⟨S256x1, .f32⟩
  | .hbm, ⟨41, _⟩ => ⟨S256x264, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x128, .f32⟩
  | .hbm, ⟨50, _⟩ => ⟨S1x2048, .f32⟩
  | .hbm, ⟨51, _⟩ => ⟨S1x2048, .f32⟩
  | .hbm, ⟨52, _⟩ => ⟨S16384x2048, .f32⟩
  | .hbm, ⟨53, _⟩ => ⟨S1x2048, .f32⟩
  | .hbm, ⟨54, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S256x264, .f32⟩
  | .local _ .vmem, ⟨7, _⟩ => ⟨S256x264, .f32⟩
  | .local _ .vmem, ⟨8, _⟩ => ⟨S256x128, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S8x1024, .f32⟩
  | .local _ .vmem, ⟨16, _⟩ => ⟨S8x1024, .f32⟩
  | .local _ .vmem, ⟨17, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_cst_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "a" => some ((999 / 1000 : ℝ) : EReal)
  | "a256" => some ((774042818860508284169126494400007598449043614535521530087047009646779559164820410689587683557450985634140921571292678638274086378001310420392593129889119280125987529993828674889646084818669635090436826694166827513506710930913431057588904568989858851780845695720084698755801174216924413728791570645555478588372478254403795765558105161793602149537451781515701459448459799313746588686199012433440533478989080541440635515237746099764893188035095958718454336685857257924336002333149607628401133464673586244211852367758375412591803228835118132092268444605310264238880419483418240542411237782400963834583209771985448398080135903219849818954343802825975920332677786631016705331889774032019437878466881660760183447022873793016452270634436039054661758731992801733876512639744001 / 1000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  | "aoma" => some ((999 / 1000000 : ℝ) : EReal)
  | _ => none
-- ==== ReferenceIdeal.lean ====
abbrev S16384x2048 : Shape := ⟨2, ![16384, 2048]⟩
abbrev S2048 : Shape := ⟨1, ![2048]⟩
abbrev S_ : Shape := ⟨0, ![]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S16384x2048, .f32⟩
  | .hbm, ⟨5, _⟩ => ⟨S_, .i32⟩
  | .hbm, ⟨6, _⟩ => ⟨S16384x2048, .f32⟩
  | .hbm, ⟨7, _⟩ => ⟨S_, .i32⟩
  | .hbm, ⟨8, _⟩ => ⟨S2048, .f32⟩
  | .hbm, ⟨9, _⟩ => ⟨S2048, .f32⟩
  | .hbm, ⟨10, _⟩ => ⟨S16384x2048, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S1x2048, .f32⟩
  | .hbm, ⟨41, _⟩ => ⟨S_, .i32⟩
  | .hbm, ⟨42, _⟩ => ⟨S16384x2048, .f32⟩
  | .hbm, ⟨43, _⟩ => ⟨S_, .i32⟩
  | .hbm, ⟨44, _⟩ => ⟨S_, .i32⟩
  | .hbm, ⟨45, _⟩ => ⟨S1x2048, .f32⟩
  | .hbm, ⟨46, _⟩ => ⟨S1x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_while0c_c_4 : Ref sig .tc := ⟨.hbm, 11, rfl⟩
abbrev main_while0c_v4 : Ref sig .tc := ⟨.hbm, 12, rfl⟩
abbrev main_while0b_call0_c : Ref sig .tc := ⟨.hbm, 13, rfl⟩
abbrev main_while0b_call0_v0 : Ref sig .tc := ⟨.hbm, 14, rfl⟩
abbrev main_while0b_v4 : Ref sig .tc := ⟨.hbm, 15, rfl⟩
abbrev main_while0b_cst_4 : Ref sig .tc := ⟨.hbm, 16, rfl⟩
abbrev main_while0b_cst_5 : Ref sig .tc := ⟨.hbm, 17, rfl⟩
abbrev main_while0b_v5 : Ref sig .tc := ⟨.hbm, 18, rfl⟩
abbrev main_while0b_cst_6 : Ref sig .tc := ⟨.hbm, 19, rfl⟩
abbrev main_while0b_v6 : Ref sig .tc := ⟨.hbm, 20, rfl⟩
abbrev main_while0b_v7 : Ref sig .tc := ⟨.hbm, 21, rfl⟩
abbrev main_while0b_v8 : Ref sig .tc := ⟨.hbm, 22, rfl⟩
abbrev main_while0b_v9 : Ref sig .tc := ⟨.hbm, 23, rfl⟩
abbrev main_while0b_v10 : Ref sig .tc := ⟨.hbm, 24, rfl⟩
abbrev main_while0b_v11 : Ref sig .tc := ⟨.hbm, 25, rfl⟩
abbrev main_while0b_v12 : Ref sig .tc := ⟨.hbm, 26, rfl⟩
abbrev main_while0b_v13 : Ref sig .tc := ⟨.hbm, 27, rfl⟩
abbrev main_while0b_cst_7 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_v17 : Ref sig .tc := ⟨.hbm, 32, rfl⟩
abbrev main_while0b_v18 : Ref sig .tc := ⟨.hbm, 33, rfl⟩
abbrev main_while0b_v19 : Ref sig .tc := ⟨.hbm, 34, rfl⟩
abbrev main_while0b_cst_8 : Ref sig .tc := ⟨.hbm, 35, rfl⟩
abbrev main_while0b_v20 : Ref sig .tc := ⟨.hbm, 36, rfl⟩
abbrev main_while0b_v21 : Ref sig .tc := ⟨.hbm, 37, rfl⟩
abbrev main_while0b_v22 : Ref sig .tc := ⟨.hbm, 38, rfl⟩
abbrev main_while0b_v23 : Ref sig .tc := ⟨.hbm, 39, rfl⟩
abbrev main_while0b_call1_v0 : Ref sig .tc := ⟨.hbm, 40, rfl⟩
abbrev main_while0b_call1_c : Ref sig .tc := ⟨.hbm, 41, rfl⟩
abbrev main_while0b_v24 : Ref sig .tc := ⟨.hbm, 42, rfl⟩
abbrev main_while0b_c_9 : Ref sig .tc := ⟨.hbm, 43, rfl⟩
abbrev main_while0b_v25 : Ref sig .tc := ⟨.hbm, 44, rfl⟩
abbrev main_v2 : Ref sig .tc := ⟨.hbm, 45, rfl⟩
abbrev main_v3 : Ref sig .tc := ⟨.hbm, 46, rfl⟩

abbrev nD : Nat := 1
abbrev τ : Topo := Topo.v7x

variable {F : FTy → Type} [FloatOps F]

abbrev main_while0_count : Scf.Loop 32 := ⟨0#32, 16384#32, 1#32⟩
-- ==== Proof.Recurrence.lean ====
/-
  The running mean and variance of one column, over the real numbers, and their values across a block of rows in closed
  form. Nothing here mentions a program: `Body` reads the kernel's arithmetic as the closed forms of this module, and
  `Scan` reads the reference's step as its recurrences.
-/
module

public import Mathlib.Algebra.BigOperators.Fin
public import Mathlib.Algebra.BigOperators.Intervals
public import Mathlib.Data.Real.Basic
public import Mathlib.Tactic.Ring
public import Mathlib.Tactic.Linarith
public import Mathlib.Tactic.NormNum
public import Mathlib.Tactic.Positivity

@[expose] public section

noncomputable section

namespace OnlineNorm

/-- The decay of the running mean and variance. -/
def decay : ℝ := 999 / 1000

/-- The weight of a new row in the running mean. -/
def fresh : ℝ := 1 / 1000

theorem one_sub_decay : 1 - decay = fresh := by norm_num [decay, fresh]

theorem decay_mul_fresh : decay * fresh = 999 / 1000000 := by norm_num [decay, fresh]

/-- The running mean before row `n` of a column `x`, from the value `m` before row 0. -/
def mean (m : ℝ) (x : ℕ → ℝ) : ℕ → ℝ
  | 0 => m
  | n + 1 => mean m x n + fresh * (x n - mean m x n)

/-- The distance of row `n` from the running mean before it. -/
def dev (m : ℝ) (x : ℕ → ℝ) (n : ℕ) : ℝ := x n - mean m x n

/-- The running variance before row `n`, from the value `v` before row 0. -/
def var (m v : ℝ) (x : ℕ → ℝ) : ℕ → ℝ
  | 0 => v
  | n + 1 => decay * var m v x n + decay * fresh * (dev m x n * dev m x n)

/-- What row `k` of a block contributes to a decaying sum before row `j`: the decay to the number of rows between. -/
def weight (j k : ℕ) : ℝ := if k < j then decay ^ (j - 1 - k) else 0

theorem weight_succ (j k : ℕ) : weight (j + 1) k = decay * weight j k + if k = j then 1 else 0 := by
  unfold weight
  rcases lt_trichotomy k j with h | h | h
  · rw [if_pos (by omega), if_pos h, if_neg (by omega), add_zero, ← pow_succ']
    congr 1; omega
  · subst h; simp
  · rw [if_neg (by omega), if_neg (by omega), if_neg (by omega)]; ring

/-- A sequence that decays and takes in one term a row, across a block of `n` rows: its value before row `j` of the
    block is its decayed value at the block's start and the weighted sum of the block's terms. -/
theorem decaying_sum (n : ℕ) (u f : ℕ → ℝ) (h : ∀ j, j < n → u (j + 1) = decay * u j + f j) :
    ∀ j, j ≤ n → u j = decay ^ j * u 0 + ∑ k : Fin n, weight j k * f k
  | 0, _ => by simp [weight]
  | j + 1, hj => by
    rw [h j (by omega), decaying_sum n u f h j (by omega)]
    have e : ∑ k : Fin n, weight (j + 1) k * f k = decay * ∑ k : Fin n, weight j k * f k + f j := by
      rw [Finset.mul_sum, show f j = ∑ k : Fin n, (if (k : ℕ) = j then 1 else 0) * f k from ?_, ← Finset.sum_add_distrib]
      · exact Finset.sum_congr rfl fun k _ => by rw [weight_succ]; ring
      · rw [Finset.sum_eq_single (⟨j, by omega⟩ : Fin n)]
        · simp
        · intro k _ hk; rw [if_neg (fun e => hk (Fin.ext e)), zero_mul]
        · intro hk; exact absurd (Finset.mem_univ _) hk
    rw [e]; ring

theorem mean_succ (m : ℝ) (x : ℕ → ℝ) (n : ℕ) : mean m x (n + 1) = decay * mean m x n + fresh * x n := by
  rw [mean, ← one_sub_decay]; ring

/-- The running mean before row `j` of the block of `n` rows that starts at row `s`. -/
theorem mean_block (m : ℝ) (x : ℕ → ℝ) (s n j : ℕ) (hj : j ≤ n) :
    mean m x (s + j) = decay ^ j * mean m x s + ∑ k : Fin n, (fresh * weight j k) * x (s + k) := by
  rw [decaying_sum n (fun i => mean m x (s + i)) (fun i => fresh * x (s + i)) (fun i _ => mean_succ m x (s + i)) j hj]
  refine congrArg₂ _ rfl (Finset.sum_congr rfl fun k _ => by ring)

/-- The running variance before row `j` of the block of `n` rows that starts at row `s`. -/
theorem var_block (m v : ℝ) (x : ℕ → ℝ) (s n j : ℕ) (hj : j ≤ n) :
    var m v x (s + j) = decay ^ j * var m v x s
      + ∑ k : Fin n, weight j k * (decay * fresh * (dev m x (s + k) * dev m x (s + k))) :=
  decaying_sum n (fun i => var m v x (s + i)) (fun i => decay * fresh * (dev m x (s + i) * dev m x (s + i)))
    (fun _ _ => rfl) j hj

/-- A variance above `-e` stays above `-e`. -/
theorem neg_lt_var (m v : ℝ) (x : ℕ → ℝ) {e : ℝ} (he : 0 < e) (hv : -e < v) : ∀ n, -e < var m v x n
  | 0 => hv
  | n + 1 => by
    have ih := neg_lt_var m v x he hv n
    have h2 : 0 ≤ decay * fresh * (dev m x n * dev m x n) :=
      mul_nonneg (by rw [decay_mul_fresh]; norm_num) (mul_self_nonneg _)
    have h3 : decay * -e < decay * var m v x n := mul_lt_mul_of_pos_left ih (by norm_num [decay])
    have h4 : -e < decay * -e := by unfold decay; linarith
    rw [var]; linarith

end OnlineNorm

end
-- ==== Proof.Payload.lean ====
/-
  What the kernel computes from the blocks of one grid point, over the real numbers. The payloads of the kernel's body
  are read at an index: given that the blocks hold real numbers — the rows of the column, the tables' powers of the
  decay, the carried mean and variance — every value the body stores is the running mean or variance of `Recurrence`,
  or the normalised row.
-/
module

public import proofs.«01_k».proof.Proof.Gen.KernelIdeal.Skeleton
public import proofs.«01_k».proof.Proof.Recurrence
public import Idealize.ShloMosaic.Lib.Pointwise

@[expose] public section

noncomputable section

namespace OnlineNorm

open Cert.KernelIdeal Cert.KernelIdeal.Gen Idealize.ShloMosaic

/-! ## Constants -/

/-- The number added to the variance under the root: the value of the 32-bit float nearest to 0.00001. -/
def eps : ℝ := 2748779 / 274877906944

theorem eps_pos : 0 < eps := by norm_num [eps]

theorem ofBits_eps : Ideal.ofBits .f32 0x3727C5AC#32 = ((eps : ℝ) : EReal) := by
  simp [Ideal.ofBits, Ideal.ieee, -EReal.coe_mul]; norm_num [eps]

theorem named_decay : Named.named (F := Ideal) Cert.KernelIdeal.κ "a" (φ := .f32) 0x3F7FBE77#32 = ((decay : ℝ) : EReal) :=
  IdealRules.named_const.ideal_named_scalar _ _ _ _ rfl

theorem named_decay_fresh :
    Named.named (F := Ideal) Cert.KernelIdeal.κ "aoma" (φ := .f32) 0x3A82F0E1#32 = ((decay * fresh : ℝ) : EReal) :=
  IdealRules.named_const.ideal_named_scalar _ _ _ _ (by rw [decay_mul_fresh]; rfl)

theorem named_decay_block :
    Named.named (F := Ideal) Cert.KernelIdeal.κ "a256" (φ := .f32) 0x3F4627AC#32 = ((decay ^ 256 : ℝ) : EReal) :=
  IdealRules.named_const.ideal_named_scalar _ _ _ _ (by
    rw [decay, div_pow]; norm_num [Cert.KernelIdeal.κ])

/-! ## The tables -/

/-- Entry (j, k) of the table that makes the running means of a block: the power of the decay against the two carried
    rows that make up the mean, nothing against the six rows that pad it, and each row's weight. -/
def meanTable (j k : ℕ) : ℝ := if k < 2 then decay ^ j else if k < 8 then 0 else fresh * weight j (k - 8)

/-- Entry (j, k) of the table that makes the running variances: as `meanTable`, without the weight of a new row. -/
def varTable (j k : ℕ) : ℝ := if k < 2 then decay ^ j else if k < 8 then 0 else weight j (k - 8)

theorem meanTable_row (j k : ℕ) : meanTable j (8 + k) = fresh * weight j k := by
  rw [meanTable, if_neg (by omega), if_neg (by omega), Nat.add_sub_cancel_left]

theorem varTable_row (j k : ℕ) : varTable j (8 + k) = weight j k := by
  rw [varTable, if_neg (by omega), if_neg (by omega), Nat.add_sub_cancel_left]

/-- The carried rows of the running mean: the mean, then its rest in the coarser format, which is nothing, then
    padding. -/
def meanRows (μ : ℝ) (r : ℕ) : ℝ := if r = 0 then μ else 0

/-- The carried rows of the running variance: the variance twice, each followed by its rest, then padding. -/
def varRows (ν : ℝ) (r : ℕ) : ℝ := if r = 0 ∨ r = 2 then ν else 0

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The product of a table row with the carried rows of the mean. -/
theorem sum_meanRows (j : ℕ) (μ : ℝ) : ∑ r : Fin 8, meanTable j r * meanRows μ r = decay ^ j * μ := by
  simp [Fin.sum_univ_succ, meanTable, meanRows]

/-- The product of a table row with the carried rows of the variance. -/
theorem sum_varRows (j : ℕ) (ν : ℝ) : ∑ r : Fin 8, varTable j r * varRows ν r = decay ^ j * ν := by
  simp [Fin.sum_univ_succ, varTable, varRows]

/-! ## The body's values at one column of a block -/

section

variable {x : Vec Ideal S256x1024 .f32} {tm tv : Vec Ideal S256x264 .f32} {rm rv : Vec Ideal S8x1024 .f32}
  {w : Vec Ideal S256x128 .f32} {mc : Vec Ideal S1x1024 .f32} {l : Fin 1024} {s : ℕ} {m v : ℝ} {X : ℕ → ℝ}

/-- The blocks of one grid point hold, in column `l`, the 256 rows of the column `X` from row `s` on, the tables, and
    the running mean and variance before row `s`. -/
structure Holds (x : Vec Ideal S256x1024 .f32) (tm tv : Vec Ideal S256x264 .f32) (w : Vec Ideal S256x128 .f32)
    (rm rv : Vec Ideal S8x1024 .f32) (mc : Vec Ideal S1x1024 .f32) (l : Fin 1024) (s : ℕ) (m v : ℝ) (X : ℕ → ℝ) : Prop where
  rows : ∀ k : Fin 256, x (ix2 k l) = ((X (s + k) : ℝ) : EReal)
  tmean : ∀ (j : Fin 256) (k : Fin 264), tm (ix2 j k) = ((meanTable j k : ℝ) : EReal)
  tvar : ∀ (j : Fin 256) (k : Fin 264), tv (ix2 j k) = ((varTable j k : ℝ) : EReal)
  tlast : ∀ (j : Fin 256) (k : Fin 128), w (ix2 j k) = ((fresh * weight 256 j : ℝ) : EReal)
  rmean : ∀ r : Fin 8, rm (ix2 r l) = ((meanRows (mean m X s) r : ℝ) : EReal)
  rvar : ∀ r : Fin 8, rv (ix2 r l) = ((varRows (var m v X s) r : ℝ) : EReal)
  cmean : mc (ix2 0 l) = ((mean m X s : ℝ) : EReal)

/-- The distance of each row from the running mean. -/
theorem pay_dev (h : Holds x tm tv w rm rv mc l s m v X) (j : Fin 256) :
    k0_pay15 x tm rm (ix2 j l) = ((dev m X (s + j) : ℝ) : EReal) := by
  pointwise [k0_pay15]
  simp only [h.rows, h.tmean, h.rmean, ← EReal.coe_mul, coe_sum, ← EReal.coe_add, ← EReal.coe_sub]
  rw [sum_meanRows, dev, mean_block m X s 256 j (by omega)]
  simp only [meanTable_row]

/-- The running variance before each row. -/
theorem pay_var (h : Holds x tm tv w rm rv mc l s m v X) (j : Fin 256) :
    k0_pay16 x tm rm tv rv (ix2 j l) = ((var m v X (s + j) : ℝ) : EReal) := by
  pointwise [k0_pay16]
  simp only [pay_dev h, h.tvar, h.rvar, named_decay_fresh, ← EReal.coe_mul, coe_sum, ← EReal.coe_add]
  rw [sum_varRows, var_block m v X s 256 j (by omega)]
  simp only [varTable_row]

/-- The normalised row, when the variance is above `-eps`. -/
theorem pay_out (h : Holds x tm tv w rm rv mc l s m v X) (hv : -eps < v) (j : Fin 256) :
    k0_pay17 x tm rm tv rv (ix2 j l) = ((dev m X (s + j) / Real.sqrt (var m v X (s + j) + eps) : ℝ) : EReal) := by
  have hp : 0 < var m v X (s + j) + eps := by have := neg_lt_var m v X eps_pos hv (s + j); linarith
  pointwise [k0_pay17]
  rw [pay_dev h, pay_var h, ofBits_eps, ← EReal.coe_add, Ideal.rsqrt_coe, if_neg (by linarith), if_neg (by linarith),
    ← EReal.coe_mul, div_eq_mul_inv]

/-- The running mean after the block's last row. -/
theorem pay_mean_next (h : Holds x tm tv w rm rv mc l s m v X) :
    k0_pay20 (k0_pay18 x w) (k0_pay19 mc) (ix2 0 l) = ((mean m X (s + 256) : ℝ) : EReal) := by
  pointwise [k0_pay20, k0_pay18, k0_pay19]
  simp only [h.rows, h.tlast, h.cmean, named_decay_block, dite_eq_ite, ite_self, ← EReal.coe_mul, coe_sum, ← EReal.coe_add]
  rw [mean_block m X s 256 256 le_rfl]

/-- The running variance after the block's last row. -/
theorem pay_var_next (h : Holds x tm tv w rm rv mc l s m v X) :
    k0_pay21 (k0_pay15 x tm rm) (k0_pay16 x tm rm tv rv) (ix2 0 l) = ((var m v X (s + 256) : ℝ) : EReal) := by
  pointwise [k0_pay21]
  rw [pay_dev h, pay_var h, named_decay, named_decay_fresh]
  simp only [← EReal.coe_mul, ← EReal.coe_add]
  rfl

end

end OnlineNorm

end
-- ==== Proof.Tables.lean ====
/-
  What the host computes before the kernel: the three tables of powers of the decay, and the starting mean and variance
  as rows. Each buffer is read at an index after the host's operations, at the interpretation of the operations over
  the extended reals.
-/
module

public import proofs.«01_k».proof.Proof.Gen.KernelIdeal.Frame.Runs
public import proofs.«01_k».proof.Proof.Payload
public import Idealize.ShloMosaic.Lib.StableHlo.RunRead
public import Idealize.ShloMosaic.Lib.Claim

@[expose] public section

noncomputable section

namespace OnlineNorm

open Cert.KernelIdeal Cert.KernelIdeal.Gen Idealize.ShloMosaic Idealize.ShloMosaic.TcCoe Idealize.ShloMosaic.StableHlo

/-! ## The host's numbers -/

theorem ofBits_thousand : Ideal.ofBits .f32 0x447A0000#32 = ((1000 : ℝ) : EReal) := by
  simp [Ideal.ofBits, Ideal.ieee, -EReal.coe_mul]; norm_num

/-- The quotient of 999 by 1000 is the decay. -/
theorem div_decay : Ideal.div (Ideal.ofBits .f32 0x4479C000#32) (Ideal.ofBits .f32 0x447A0000#32) = ((decay : ℝ) : EReal) := by
  have h : Ideal.ofBits .f32 0x4479C000#32 = ((999 : ℝ) : EReal) := by
    simp [Ideal.ofBits, Ideal.ieee, -EReal.coe_mul]; norm_num
  rw [h, ofBits_thousand, Ideal.div_coe (by norm_num), ← EReal.coe_mul]
  norm_num [decay]

/-- The quotient of 1 by 1000 is the weight of a new row. -/
theorem div_fresh : Ideal.div 1 (Ideal.ofBits .f32 0x447A0000#32) = ((fresh : ℝ) : EReal) := by
  rw [ofBits_thousand, Ideal.div_coe (by norm_num), one_mul]
  norm_num [fresh]

/-- A row or column number, written as a word and read back as a float, is the number. -/
theorem sitofp_ofNat {n : ℕ} (h : n < 2 ^ 31) :
    FloatOps.sitofp (F := Ideal) .f32 (BitVec.ofNat 32 n) = ((n : ℝ) : EReal) := by
  have : (BitVec.ofNat 32 n).toInt = n := by
    rw [BitVec.toInt_eq_toNat_of_lt] <;> rw [BitVec.toNat_ofNat, Nat.mod_eq_of_lt (by omega)]
    omega
  change (((BitVec.ofNat 32 n).toInt : ℝ) : EReal) = _
  rw [this]; simp

/-- The host's power of the decay to a natural number is the power. -/
theorem pow_decay (n : ℕ) : Ideal.pow ((decay : ℝ) : EReal) ((n : ℝ) : EReal) = ((decay ^ n : ℝ) : EReal) := by
  rw [Ideal.pow_coe_coe]; exact congrArg _ (Real.rpow_natCast _ _)

/-- The host's entry for row `k` before row `j`: a power where `k < j`, by comparing the two numbers as floats, and
    zero elsewhere. -/
theorem host_weight (j k : ℕ) :
    (if ((k : ℝ) : EReal) < ((j : ℝ) : EReal) then
        Ideal.pow ((decay : ℝ) : EReal) (max (((j : ℝ) : EReal) - 1 - ((k : ℝ) : EReal)) 0)
      else id (constant (F := Ideal) S_ FTy.f32 0#32) ix0) = ((weight j k : ℝ) : EReal) := by
  unfold weight
  by_cases h : k < j
  · rw [if_pos h, if_pos (by exact_mod_cast h), ← EReal.coe_one, ← EReal.coe_zero, ← EReal.coe_sub, ← EReal.coe_sub,
      max_eq_left, show (j : ℝ) - 1 - (k : ℝ) = ((j - 1 - k : ℕ) : ℝ) by
        rw [Nat.cast_sub (by omega), Nat.cast_sub (by omega)]; norm_num, pow_decay]
    rw [EReal.coe_le_coe_iff]
    have : (k : ℝ) + 1 ≤ j := by exact_mod_cast h
    linarith
  · rw [if_neg h, if_neg (by exact_mod_cast h)]
    exact Ideal.ofBits_zero .f32

/-! ## The buffers -/

variable (m : (ℓ : Loc nD τ sig) → Buf (Elt Ideal) ℓ) (c : Dev nD)

/-- The first table is `meanTable`. -/
theorem V_meanTable (j : Fin 256) (k : Fin 264) : V m c main_v24 (ix2 j k) = ((meanTable j k : ℝ) : EReal) := by
  unfold V
  simp only [List.flatten_cons, List.flatten_nil, List.append_nil, List.cons_append, List.nil_append, hostOps0, hostOps0_1,
    hostOps0_2]
  after_reads_simp
  simp only [Matrix.cons_val]
  after_reads_simp
  simp only [TRef.ofBuf, TRef.toBuf, cast_eq]
  pointwise
  have hj := j.isLt
  have hk := k.isLt
  simp only [Nat.sub_sub, Nat.reduceAdd, dite_eq_ite]
  rw [sitofp_ofNat (n := j) (by omega), sitofp_ofNat (n := (k : ℕ) - 8) (by omega), div_decay, div_fresh, host_weight, pow_decay, meanTable]
  by_cases h2 : (k : ℕ) < 2
  · rw [if_pos h2]
    by_cases h1 : (k : ℕ) < 1
    · rw [if_pos h1]
    · rw [if_neg h1, if_pos (by omega)]
  · rw [if_neg h2, if_neg (by omega), if_neg (by omega)]
    by_cases h8 : (k : ℕ) < 8
    · rw [if_pos h8]

      have : (k : ℕ) - 7 = 0 := by omega
      rw [this]; simp
    · rw [if_neg h8]
      repeat rw [if_neg (by omega)]
      rw [EReal.coe_mul]

/-- The second table is `varTable`. -/
theorem V_varTable (j : Fin 256) (k : Fin 264) : V m c main_v28 (ix2 j k) = ((varTable j k : ℝ) : EReal) := by
  unfold V
  simp only [List.flatten_cons, List.flatten_nil, List.append_nil, List.cons_append, List.nil_append, hostOps0, hostOps0_1,
    hostOps0_2]
  after_reads_simp
  simp only [Matrix.cons_val]
  after_reads_simp
  simp only [TRef.ofBuf, TRef.toBuf, cast_eq]
  pointwise
  have hj := j.isLt
  have hk := k.isLt
  simp only [Nat.sub_sub, Nat.reduceAdd, dite_eq_ite]
  rw [sitofp_ofNat (n := j) (by omega), sitofp_ofNat (n := (k : ℕ) - 8) (by omega), div_decay, host_weight, pow_decay, varTable]
  by_cases h2 : (k : ℕ) < 2
  · rw [if_pos h2]
    by_cases h1 : (k : ℕ) < 1
    · rw [if_pos h1]
    · rw [if_neg h1, if_pos (by omega)]
  · rw [if_neg h2, if_neg (by omega), if_neg (by omega)]
    by_cases h8 : (k : ℕ) < 8
    · rw [if_pos h8]
      simp only [← EReal.coe_sub, sub_self, EReal.coe_zero]
      have : (k : ℕ) - 7 = 0 := by omega
      rw [this]; simp
    · rw [if_neg h8]
      repeat rw [if_neg (by omega)]

/-- The third table holds, in every column, the weight of row `j` in the mean after the block's last row. -/
theorem V_lastTable (j : Fin 256) (k : Fin 128) : V m c main_v35 (ix2 j k) = ((fresh * weight 256 j : ℝ) : EReal) := by
  unfold V
  simp only [List.flatten_cons, List.flatten_nil, List.append_nil, List.cons_append, List.nil_append, hostOps0, hostOps0_1,
    hostOps0_2]
  after_reads_simp
  pointwise
  have h255 : Ideal.ofBits .f32 0x437F0000#32 = ((255 : ℝ) : EReal) := by
    simp [Ideal.ofBits, Ideal.ieee, -EReal.coe_mul]; norm_num
  have hj := j.isLt
  rw [div_decay, div_fresh, h255, sitofp_ofNat (by omega), ← EReal.coe_sub, weight, if_pos hj,
    show (255 : ℝ) - (j : ℕ) = ((256 - 1 - (j : ℕ) : ℕ) : ℝ) by
      rw [Nat.cast_sub (by omega), Nat.cast_sub (by omega)]; norm_num, pow_decay, EReal.coe_mul]

/-- The starting mean as a row. -/
theorem V_mean (k : Fin 2048) : V m c main_v36 (ix2 0 k) = m (c, Proc.tc.devRef main_arg1) (ix1 k) := by
  unfold V
  simp only [List.flatten_cons, List.flatten_nil, List.append_nil, List.cons_append, List.nil_append, hostOps0, hostOps0_1,
    hostOps0_2]
  after_reads_simp
  pointwise

/-- The starting variance as a row. -/
theorem V_var (k : Fin 2048) : V m c main_v37 (ix2 0 k) = m (c, Proc.tc.devRef main_arg2) (ix1 k) := by
  unfold V
  simp only [List.flatten_cons, List.flatten_nil, List.append_nil, List.cons_append, List.nil_append, hostOps0, hostOps0_1,
    hostOps0_2]
  after_reads_simp
  pointwise

end OnlineNorm

end
-- ==== Proof.Body.lean ====
/-
  What the kernel computes, point by point. A grid point's input blocks are read at their place in the arrays, the
  carried buffers are read row by row, and an induction over the points gives, for every column, the running mean and
  variance that the scratch buffers carry past each chunk of 256 rows; the outputs follow.
-/
module

public import proofs.«01_k».proof.Proof.Gen.KernelIdeal.Value
public import proofs.«01_k».proof.Proof.Tables
public import Idealize.ShloMosaic.Lib.Pipeline.ValueKit
public import Idealize.ShloMosaic.Lib.Pipeline.ReadBack
public import Idealize.ShloMosaic.Lib.WritesUnit
public import Idealize.ShloMosaic.Lib.Claim

@[expose] public section

noncomputable section

namespace OnlineNorm

open Cert.KernelIdeal Cert.KernelIdeal.Gen Idealize.ShloMosaic Idealize.ShloMosaic.TcCoe Idealize.ShloMosaic.StableHlo
open Idealize.ShloMosaic.Pipeline

/-! ## The arguments -/

/-- The three arguments hold real numbers: column `k` of the first is `X k`, and the starting mean and variance of the
    column are `M k` and `N k`, the variance above `-eps`. -/
structure Inputs (x : (⟨2, ![16384, 2048]⟩ : Shape).Idx → EReal) (μ ν : (⟨1, ![2048]⟩ : Shape).Idx → EReal)
    (X : ℕ → ℕ → ℝ) (M N : ℕ → ℝ) : Prop where
  rows : ∀ (n : Fin 16384) (k : Fin 2048), x (ix2 n k) = ((X k n : ℝ) : EReal)
  mean : ∀ k : Fin 2048, μ (ix1 k) = ((M k : ℝ) : EReal)
  var : ∀ k : Fin 2048, ν (ix1 k) = ((N k : ℝ) : EReal)
  pos : ∀ k : Fin 2048, -eps < N k

/-! ## Buffers of eight rows -/

section

variable {sp : Space} (v : View sig .tc sp S8x1024 .f32) (f : v.ty.Contents (Elt Ideal))
  (L : List (View.Piece (Elt Ideal) S8x1024 .f32)) (r : Fin 8) (l : Fin 1024)

/-- What a buffer of eight rows reads after a row has been stored: the row itself, and elsewhere what it read before. -/
theorem read_row (a : ℕ) (inb : ∀ i, (![a, 0] : Fin 2 → ℕ) i + (![1, 1024] : Fin 2 → ℕ) i ≤ S8x1024.size i)
    (w : S1x1024.Idx → EReal) :
    v.read (Elt Ideal) (v.writes (Elt Ideal) f (⟨Rect.unit ![a, 0] ![1, 1024] inb, w⟩ :: L)) (ix2 r l)
      = if (r : ℕ) = a then w (ix2 0 l) else v.read (Elt Ideal) (v.writes (Elt Ideal) f L) (ix2 r l) := by
  by_cases h : (r : ℕ) = a
  · rw [if_pos h]
    exact View.read_writes_cons_rows_of_mem v f inb w L (ix2 r l) (ix2 0 l) rfl (by simpa using h) (by simp)
  · rw [if_neg h]
    exact View.read_writes_cons_rows_of_not_mem v f inb w L (ix2 r l) rfl (W := 1) rfl (by simp; omega)

/-- What a buffer of eight rows reads after a store of all of it. -/
theorem read_all (inb : ∀ i, (![0, 0] : Fin 2 → ℕ) i + (![8, 1024] : Fin 2 → ℕ) i ≤ S8x1024.size i)
    (w : S8x1024.Idx → EReal) :
    v.read (Elt Ideal) (v.writes (Elt Ideal) f (⟨Rect.unit ![0, 0] ![8, 1024] inb, w⟩ :: L)) (ix2 r l) = w (ix2 r l) :=
  View.read_writes_cons_rows_of_mem v f inb w L (ix2 r l) (ix2 r l) rfl (by simp) (by simp)

/-- A load of all of a buffer of eight rows, after stores, is a read. -/
theorem read_load (inb : ∀ i, (![0, 0] : Fin 2 → ℕ) i + (![8, 1024] : Fin 2 → ℕ) i ≤ S8x1024.size i) :
    v.readCov L (Rect.unit (s := S8x1024) ![0, 0] ![8, 1024] inb).toLoadRect (ix2 r l)
      = v.read (Elt Ideal) (v.writes (Elt Ideal) v.junk L) (ix2 r l) := by
  have e : (Rect.unit (s := S8x1024) ![0, 0] ![8, 1024] inb).toLoadRect.idx (ix2 r l) = (ix2 r l : S8x1024.Idx) := by
    funext a; apply Fin.ext; fin_cases a <;> simp [Rect.unit]
  change v.read (Elt Ideal) (v.writes (Elt Ideal) v.junk L) ((Rect.unit (s := S8x1024) ![0, 0] ![8, 1024] inb).toLoadRect.idx (ix2 r l)) = _
  rw [e]

/-- The two stores that carry a mean leave its rows, when the padding was nothing before. -/
theorem read_mean (inb0 : ∀ i, (![0, 0] : Fin 2 → ℕ) i + (![1, 1024] : Fin 2 → ℕ) i ≤ S8x1024.size i)
    (inb1 : ∀ i, (![1, 0] : Fin 2 → ℕ) i + (![1, 1024] : Fin 2 → ℕ) i ≤ S8x1024.size i) (w0 w1 : S1x1024.Idx → EReal)
    (μ : ℝ) (h0 : w0 (ix2 0 l) = ((μ : ℝ) : EReal)) (h1 : w1 (ix2 0 l) = 0)
    (hL : 2 ≤ (r : ℕ) → v.read (Elt Ideal) (v.writes (Elt Ideal) f L) (ix2 r l) = 0) :
    v.read (Elt Ideal) (v.writes (Elt Ideal) f (⟨Rect.unit ![1, 0] ![1, 1024] inb1, w1⟩ ::
      ⟨Rect.unit ![0, 0] ![1, 1024] inb0, w0⟩ :: L)) (ix2 r l) = ((meanRows μ r : ℝ) : EReal) := by
  rw [read_row, read_row, meanRows, h0, h1]
  split_ifs with a b
  · omega
  · rfl
  · rfl
  · exact hL (by omega)

/-- The four stores that carry a variance leave its rows, when the padding was nothing before. -/
theorem read_var (inb0 : ∀ i, (![0, 0] : Fin 2 → ℕ) i + (![1, 1024] : Fin 2 → ℕ) i ≤ S8x1024.size i)
    (inb1 : ∀ i, (![1, 0] : Fin 2 → ℕ) i + (![1, 1024] : Fin 2 → ℕ) i ≤ S8x1024.size i)
    (inb2 : ∀ i, (![2, 0] : Fin 2 → ℕ) i + (![1, 1024] : Fin 2 → ℕ) i ≤ S8x1024.size i)
    (inb3 : ∀ i, (![3, 0] : Fin 2 → ℕ) i + (![1, 1024] : Fin 2 → ℕ) i ≤ S8x1024.size i)
    (w0 w1 w2 w3 : S1x1024.Idx → EReal) (ν : ℝ) (h0 : w0 (ix2 0 l) = ((ν : ℝ) : EReal)) (h1 : w1 (ix2 0 l) = 0)
    (h2 : w2 (ix2 0 l) = ((ν : ℝ) : EReal)) (h3 : w3 (ix2 0 l) = 0)
    (hL : 4 ≤ (r : ℕ) → v.read (Elt Ideal) (v.writes (Elt Ideal) f L) (ix2 r l) = 0) :
    v.read (Elt Ideal) (v.writes (Elt Ideal) f (⟨Rect.unit ![3, 0] ![1, 1024] inb3, w3⟩ ::
      ⟨Rect.unit ![2, 0] ![1, 1024] inb2, w2⟩ :: ⟨Rect.unit ![1, 0] ![1, 1024] inb1, w1⟩ ::
      ⟨Rect.unit ![0, 0] ![1, 1024] inb0, w0⟩ :: L)) (ix2 r l) = ((varRows ν r : ℝ) : EReal) := by
  rw [read_row, read_row, read_row, read_row, varRows, h0, h1, h2, h3]
  by_cases a3 : (r : ℕ) = 3
  · rw [if_pos a3, if_neg (by omega)]; rfl
  rw [if_neg a3]
  by_cases a2 : (r : ℕ) = 2
  · rw [if_pos a2, if_pos (by omega)]
  rw [if_neg a2]
  by_cases a1 : (r : ℕ) = 1
  · rw [if_pos a1, if_neg (by omega)]; rfl
  rw [if_neg a1]
  by_cases a0 : (r : ℕ) = 0
  · rw [if_pos a0, if_pos (by omega)]
  rw [if_neg a0, if_neg (by omega)]
  exact hL (by omega)

end

/-! ## The blocks of a grid point -/

variable (m : (ℓ : Loc nD τ sig) → Buf (Elt Ideal) ℓ) (c : Dev nD)

/-- Which block of its array every input window shows at each grid point. -/
theorem idx : ∀ t : Fin cfg0.N, win0_0.index t = ![t.val % 64, t.val / 64] ∧ win0_1.index t = ![0, t.val / 64]
    ∧ win0_2.index t = ![0, t.val / 64] ∧ win0_3.index t = ![0, 0] ∧ win0_4.index t = ![0, 0] ∧ win0_5.index t = ![0, 0] :=
  (by decide +kernel : ∀ t : Fin grid0.N, _)

theorem point_lt (t : Fin cfg0.N) : t.val < 128 := lt_of_lt_of_eq t.isLt (by decide)

/-- The row of the array that row `j` of the point's block is. -/
def row (t : Fin cfg0.N) (j : Fin 256) : Fin 16384 := ⟨256 * (t.val % 64) + j, by omega⟩

/-- The column of the array that column `l` of the point's block is. -/
def col (t : Fin cfg0.N) (l : Fin 1024) : Fin 2048 := ⟨1024 * (t.val / 64) + l, by have := point_lt t; omega⟩

theorem block_rows (t : Fin cfg0.N) (j : Fin 256) (l : Fin 1024) :
    iblk m c 0 t (ix2 j l) = m ((c : Thread nD τ).loc main_arg0) (ix2 (row t j) (col t l)) := by
  rw [← V_main_arg0 m c]
  blk_ext [iblk, idx t, row, col]

theorem block_mean (t : Fin cfg0.N) (l : Fin 1024) : iblk m c 1 t (ix2 0 l) = V m c main_v36 (ix2 0 (col t l)) := by
  blk_ext [iblk, idx t, col]

theorem block_var (t : Fin cfg0.N) (l : Fin 1024) : iblk m c 2 t (ix2 0 l) = V m c main_v37 (ix2 0 (col t l)) := by
  blk_ext [iblk, idx t, col]

theorem block_meanTable (t : Fin cfg0.N) (j : Fin 256) (k : Fin 264) :
    iblk m c 3 t (ix2 j k) = V m c main_v24 (ix2 j k) := by
  blk_ext [iblk, idx t]

theorem block_varTable (t : Fin cfg0.N) (j : Fin 256) (k : Fin 264) :
    iblk m c 4 t (ix2 j k) = V m c main_v28 (ix2 j k) := by
  blk_ext [iblk, idx t]

theorem block_lastTable (t : Fin cfg0.N) (j : Fin 256) (k : Fin 128) :
    iblk m c 5 t (ix2 j k) = V m c main_v35 (ix2 j k) := by
  blk_ext [iblk, idx t]

/-! ## The induction -/

variable {X : ℕ → ℕ → ℝ} {M N : ℕ → ℝ}

/-- The carried buffers hold, in column `l`, the running mean and variance `a` and `b`. -/
structure Carried (rm rv : Vec Ideal S8x1024 .f32) (mc : Vec Ideal S1x1024 .f32) (l : Fin 1024) (a b : ℝ) : Prop where
  rmean : ∀ r : Fin 8, rm (ix2 r l) = ((meanRows a r : ℝ) : EReal)
  rvar : ∀ r : Fin 8, rv (ix2 r l) = ((varRows b r : ℝ) : EReal)
  cmean : mc (ix2 0 l) = ((a : ℝ) : EReal)

/-- The arguments of a launch hold real numbers. -/
abbrev Launched (X : ℕ → ℕ → ℝ) (M N : ℕ → ℝ) : Prop :=
  Inputs (m ((c : Thread nD τ).loc main_arg0)) (m ((c : Thread nD τ).loc main_arg1)) (m ((c : Thread nD τ).loc main_arg2)) X M N

/-- What the blocks of a point hold, given what the carried buffers do. -/
theorem holds_of_carried (h : Launched m c X M N) (t : Fin cfg0.N) (l : Fin 1024) {rm rv : Vec Ideal S8x1024 .f32}
    {mc : Vec Ideal S1x1024 .f32} (hc : Carried rm rv mc l (mean (M (col t l)) (X (col t l)) (256 * (t.val % 64)))
      (var (M (col t l)) (N (col t l)) (X (col t l)) (256 * (t.val % 64)))) :
    Holds (iblk m c 0 t) (iblk m c 3 t) (iblk m c 4 t) (iblk m c 5 t) rm rv mc l (256 * (t.val % 64)) (M (col t l))
      (N (col t l)) (X (col t l)) where
  rows k := (block_rows m c t k l).trans (h.rows _ _)
  tmean j k := (block_meanTable m c t j k).trans (V_meanTable m c j k)
  tvar j k := (block_varTable m c t j k).trans (V_varTable m c j k)
  tlast j k := (block_lastTable m c t j k).trans (V_lastTable m c j k)
  rmean := hc.rmean
  rvar := hc.rvar
  cmean := hc.cmean

/-- What the stores at the end of a point's body put into the carried rows. -/
theorem pay_carry {x : Vec Ideal S256x1024 .f32} {tm tv : Vec Ideal S256x264 .f32} {rm rv : Vec Ideal S8x1024 .f32}
    {w : Vec Ideal S256x128 .f32} {mc : Vec Ideal S1x1024 .f32} {l : Fin 1024} {s : ℕ} {a b : ℝ} {Y : ℕ → ℝ}
    (h : Holds x tm tv w rm rv mc l s a b Y) :
    (k0_pay23 (k0_pay18 x w) (k0_pay19 mc) (ix2 0 l) = ((mean a Y (s + 256) : ℝ) : EReal)
      ∧ k0_pay24 (k0_pay18 x w) (k0_pay19 mc) (ix2 0 l) = 0
      ∧ k0_pay25 (k0_pay18 x w) (k0_pay19 mc) (ix2 0 l) = ((mean a Y (s + 256) : ℝ) : EReal))
    ∧ k0_pay28 (k0_pay15 x tm rm) (k0_pay16 x tm rm tv rv) (ix2 0 l) = ((var a b Y (s + 256) : ℝ) : EReal)
      ∧ k0_pay29 (k0_pay15 x tm rm) (k0_pay16 x tm rm tv rv) (ix2 0 l) = 0
      ∧ k0_pay30 (k0_pay15 x tm rm) (k0_pay16 x tm rm tv rv) (ix2 0 l) = ((var a b Y (s + 256) : ℝ) : EReal)
      ∧ k0_pay31 (k0_pay15 x tm rm) (k0_pay16 x tm rm tv rv) (ix2 0 l) = 0 := by
  refine ⟨⟨?_, ?_, ?_⟩, ?_, ?_, ?_, ?_⟩
  · pointwise [k0_pay23, k0_pay22]; exact pay_mean_next h
  · pointwise [k0_pay24, k0_pay22]; rw [pay_mean_next h, ← EReal.coe_sub, sub_self, EReal.coe_zero]
  · pointwise [k0_pay25]; exact pay_mean_next h
  · pointwise [k0_pay28, k0_pay26]; exact pay_var_next h
  · pointwise [k0_pay29, k0_pay27, k0_pay26]; rw [pay_var_next h, ← EReal.coe_sub, sub_self, EReal.coe_zero]
  · pointwise [k0_pay30, k0_pay26]; exact pay_var_next h
  · pointwise [k0_pay31, k0_pay27, k0_pay26]; rw [pay_var_next h, ← EReal.coe_sub, sub_self, EReal.coe_zero]

/-- What a grid point does in column `l`, with `o` what it leaves in the outputs and the carried buffers: for carried
    buffers that held the running mean and variance before its first row, the outputs are the body's values, and the
    carried buffers are left with the running mean and variance after its last row. -/
def Does (t : Fin cfg0.N) (l : Fin 1024) (X : ℕ → ℕ → ℝ) (M N : ℕ → ℝ) (o : Vec Ideal S256x1024 .f32 × Vec Ideal S1x1024 .f32 ×
    Vec Ideal S1x1024 .f32 × Vec Ideal S8x1024 .f32 × Vec Ideal S8x1024 .f32 × Vec Ideal S1x1024 .f32) : Prop :=
  ∃ (rm rv : Vec Ideal S8x1024 .f32) (mc : Vec Ideal S1x1024 .f32),
    Carried rm rv mc l (mean (M (col t l)) (X (col t l)) (256 * (t.val % 64)))
      (var (M (col t l)) (N (col t l)) (X (col t l)) (256 * (t.val % 64)))
    ∧ o.1 = k0_pay17 (iblk m c 0 t) (iblk m c 3 t) rm (iblk m c 4 t) rv
    ∧ o.2.1 = k0_pay20 (k0_pay18 (iblk m c 0 t) (iblk m c 5 t)) (k0_pay19 mc)
    ∧ o.2.2.1 = k0_pay21 (k0_pay15 (iblk m c 0 t) (iblk m c 3 t) rm)
        (k0_pay16 (iblk m c 0 t) (iblk m c 3 t) rm (iblk m c 4 t) rv)
    ∧ Carried o.2.2.2.1 o.2.2.2.2.1 o.2.2.2.2.2 l (mean (M (col t l)) (X (col t l)) (256 * (t.val % 64) + 256))
      (var (M (col t l)) (N (col t l)) (X (col t l)) (256 * (t.val % 64) + 256))

/-- The first point of a column block. -/
theorem does_first (h : Launched m c X M N) (t : Fin cfg0.N) (h0 : t.val % 64 = 0) (l : Fin 1024) :
    Does m c t l X M N (outsAt0 m c t.val t.isLt) := by
  have hm : iblk m c 1 t (ix2 0 l) = ((M (col t l) : ℝ) : EReal) :=
    (block_mean m c t l).trans ((V_mean m c _).trans (h.mean _))
  have hv : iblk m c 2 t (ix2 0 l) = ((N (col t l) : ℝ) : EReal) :=
    (block_var m c t l).trans ((V_var m c _).trans (h.var _))
  have both : ∀ {P Q : Prop}, P → (P → Q) → P ∧ Q := fun p q => ⟨p, q p⟩
  refine ⟨?rm, ?rv, ?mc, both ?carried fun hc => ⟨?e1, ?e2, ?e3, ?after⟩⟩
  case e1 => rw [outsAt0_A m c t h0]; frame_out; rfl
  case e2 => rw [outsAt0_A m c t h0]; frame_out; rfl
  case e3 => rw [outsAt0_A m c t h0]; frame_out
  case carried =>
    rw [h0]
    refine ⟨fun r => ?_, fun r => ?_, ?_⟩
    · rw [read_load]
      refine read_mean _ _ _ _ _ _ _ _ _ _ ?_ ?_ fun _ => ?_
      · pointwise; exact hm
      · pointwise; rw [hm, ← EReal.coe_sub, sub_self, EReal.coe_zero]
      · rw [read_all]; pointwise
    · rw [read_load]
      refine read_var _ _ _ _ _ _ _ _ _ _ _ _ _ _ ?_ ?_ ?_ ?_ fun _ => ?_
      · pointwise; exact hv
      · pointwise; rw [hv, ← EReal.coe_sub, sub_self, EReal.coe_zero]
      · pointwise [k0_pay13]; exact hv
      · pointwise [k0_pay14]; rw [hv, ← EReal.coe_sub, sub_self, EReal.coe_zero]
      · rw [read_all]; pointwise
    · pointwise; exact hm
  have hp := pay_carry (holds_of_carried m c h t l hc)
  refine ⟨fun r => ?_, fun r => ?_, ?_⟩
  · rw [outsAt0_A m c t h0]; frame_out
    rw [← View.read_writes_junk_eq_canon (View.whole cc0_scratch0)]
    refine read_mean _ _ _ _ _ _ _ _ _ _ hp.1.1 hp.1.2.1 fun hr => ?_
    rw [read_row, if_neg (by omega), read_row, if_neg (by omega), read_all]; pointwise
  · rw [outsAt0_A m c t h0]; frame_out
    rw [← View.read_writes_junk_eq_canon (View.whole cc0_scratch1)]
    refine read_var _ _ _ _ _ _ _ _ _ _ _ _ _ _ hp.2.1 hp.2.2.1 hp.2.2.2.1 hp.2.2.2.2 fun hr => ?_
    rw [read_row, if_neg (by omega), read_row, if_neg (by omega), read_row, if_neg (by omega), read_row, if_neg (by omega),
      read_all]; pointwise
  · rw [outsAt0_A m c t h0]; frame_out
    exact hp.1.2.2

/-- Every later point of a column block, given what the point before left in the carried buffers. -/
theorem does_next (h : Launched m c X M N) (t : Fin cfg0.N) (h0 : ¬ t.val % 64 = 0) (l : Fin 1024)
    (hc : Carried (outsAt0 m c (t.val - 1) (lt_of_le_of_lt (Nat.sub_le _ _) t.isLt)).2.2.2.1 (outsAt0 m c (t.val - 1) (lt_of_le_of_lt (Nat.sub_le _ _) t.isLt)).2.2.2.2.1
      (outsAt0 m c (t.val - 1) (lt_of_le_of_lt (Nat.sub_le _ _) t.isLt)).2.2.2.2.2 l
      (mean (M (col t l)) (X (col t l)) (256 * (t.val % 64)))
      (var (M (col t l)) (N (col t l)) (X (col t l)) (256 * (t.val % 64)))) :
    Does m c t l X M N (outsAt0 m c t.val t.isLt) := by
  have hp := pay_carry (holds_of_carried m c h t l hc)
  refine ⟨_, _, _, hc, ?e1, ?e2, ?e3, ?rm, ?rv, ?mc⟩
  case e1 => rw [outsAt0_B m c t h0]; frame_out; simp only [read_unread_whole]
  case e2 => rw [outsAt0_B m c t h0]; frame_out; simp only [read_unread_whole]
  case e3 => rw [outsAt0_B m c t h0]; frame_out; simp only [read_unread_whole]
  case rm =>
    intro r
    rw [outsAt0_B m c t h0]; frame_out; simp only [read_unread_whole]
    refine read_mean _ _ _ _ _ _ _ _ _ _ hp.1.1 hp.1.2.1 fun hr => ?_
    rw [View.writes_nil, read_unread_whole, hc.rmean, meanRows, if_neg (by omega), EReal.coe_zero]
  case rv =>
    intro r
    rw [outsAt0_B m c t h0]; frame_out; simp only [read_unread_whole]
    refine read_var _ _ _ _ _ _ _ _ _ _ _ _ _ _ hp.2.1 hp.2.2.1 hp.2.2.2.1 hp.2.2.2.2 fun hr => ?_
    rw [View.writes_nil, read_unread_whole, hc.rvar, varRows, if_neg (by omega), EReal.coe_zero]
  case mc =>
    rw [outsAt0_B m c t h0]; frame_out; simp only [read_unread_whole]
    exact hp.1.2.2

/-- Every point, by induction over the points of its column block. -/
theorem does (h : Launched m c X M N) (l : Fin 1024) (n : ℕ) (hn : n < cfg0.N) :
    Does m c ⟨n, hn⟩ l X M N (outsAt0 m c n hn) := by
  induction n with
  | zero => exact does_first m c h ⟨0, hn⟩ rfl l
  | succ n ih =>
    by_cases h0 : (n + 1) % 64 = 0
    · exact does_first m c h ⟨n + 1, hn⟩ h0 l
    · obtain ⟨_, _, _, -, -, -, -, hc⟩ := ih (Nat.lt_of_succ_lt hn)
      refine does_next m c h ⟨n + 1, hn⟩ h0 l ?_
      have e1 : col ⟨n + 1, hn⟩ l = col ⟨n, Nat.lt_of_succ_lt hn⟩ l := Fin.ext (by simp only [col]; omega)
      have e2 : 256 * ((n + 1) % 64) = 256 * (n % 64) + 256 := by omega
      simp only [e1, e2]
      exact hc

/-- The normalised rows that a point leaves in the first output. -/
theorem point_out (h : Launched m c X M N) (t : Fin cfg0.N) (j : Fin 256) (l : Fin 1024) :
    (outsAt0 m c t.val t.isLt).1 (ix2 j l)
      = ((dev (M (col t l)) (X (col t l)) (row t j) / Real.sqrt (var (M (col t l)) (N (col t l)) (X (col t l)) (row t j) + eps) : ℝ)
        : EReal) := by
  obtain ⟨_, _, _, hc, e, -, -, -⟩ := does m c h l t.val t.isLt
  rw [e]
  exact pay_out (holds_of_carried m c h t l hc) (h.pos _) j

/-- The running mean that a point leaves in the second output. -/
theorem point_mean (h : Launched m c X M N) (t : Fin cfg0.N) (l : Fin 1024) :
    (outsAt0 m c t.val t.isLt).2.1 (ix2 0 l)
      = ((mean (M (col t l)) (X (col t l)) (256 * (t.val % 64) + 256) : ℝ) : EReal) := by
  obtain ⟨_, _, _, hc, -, e, -, -⟩ := does m c h l t.val t.isLt
  rw [e]
  exact pay_mean_next (holds_of_carried m c h t l hc)

/-- The running variance that a point leaves in the third output. -/
theorem point_var (h : Launched m c X M N) (t : Fin cfg0.N) (l : Fin 1024) :
    (outsAt0 m c t.val t.isLt).2.2.1 (ix2 0 l)
      = ((var (M (col t l)) (N (col t l)) (X (col t l)) (256 * (t.val % 64) + 256) : ℝ) : EReal) := by
  obtain ⟨_, _, _, hc, -, -, e, -⟩ := does m c h l t.val t.isLt
  rw [e]
  exact pay_var_next (holds_of_carried m c h t l hc)

/-! ## The arrays that the run leaves -/

/-- The first result: every row less the running mean before it, over the root of the running variance before it. -/
theorem result_out (h : Launched m c X M N) (n : Fin 16384) (k : Fin 2048) :
    Cert.KernelIdeal.Value.G6 m c (ix2 n k)
      = ((dev (M k) (X k) n / Real.sqrt (var (M k) (N k) (X k) n + eps) : ℝ) : EReal) := by
  have hN : cfg0.N = 128 := N_0
  have hp : Cert.KernelIdeal.Value.pt6Of (ix2 n k) = (n : ℕ) / 256 + 64 * ((k : ℕ) / 1024) := by
    simp [Cert.KernelIdeal.Value.pt6Of, Cert.KernelIdeal.Value.run6Of]
  have hlt : (n : ℕ) / 256 + 64 * ((k : ℕ) / 1024) < cfg0.N := by omega
  have hl : Cert.KernelIdeal.Value.loc6Of (ix2 n k)
      = ix2 ⟨(n : ℕ) % 256, Nat.mod_lt _ (by decide)⟩ ⟨(k : ℕ) % 1024, Nat.mod_lt _ (by decide)⟩ := by
    funext a; fin_cases a <;> rfl
  have hc : col ⟨_, hlt⟩ ⟨(k : ℕ) % 1024, Nat.mod_lt _ (by decide)⟩ = k := Fin.ext (by simp only [col]; omega)
  have hr : row ⟨_, hlt⟩ ⟨(n : ℕ) % 256, Nat.mod_lt _ (by decide)⟩ = n := Fin.ext (by simp only [row]; omega)
  have e := point_out m c h ⟨_, hlt⟩ ⟨(n : ℕ) % 256, Nat.mod_lt _ (by decide)⟩ ⟨(k : ℕ) % 1024, Nat.mod_lt _ (by decide)⟩
  rw [hc, hr] at e
  rw [Cert.KernelIdeal.Value.G6, dif_pos (hp ▸ hlt), ← Cert.KernelIdeal.Value.outsAt0_sweep m c _ (hp ▸ hlt), hl]
  simp only [hp]
  exact e

/-- The second result: the running mean after the last row. -/
theorem result_mean (h : Launched m c X M N) (k : Fin 2048) :
    Cert.KernelIdeal.Value.G7 m c (ix2 0 k) = ((mean (M k) (X k) 16384 : ℝ) : EReal) := by
  have hN : cfg0.N = 128 := N_0
  have hp : Cert.KernelIdeal.Value.pt7Of (ix2 0 k) = 64 * ((k : ℕ) / 1024) + 63 := by
    simp [Cert.KernelIdeal.Value.pt7Of, Cert.KernelIdeal.Value.run7Of]
  have hlt : 64 * ((k : ℕ) / 1024) + 63 < cfg0.N := by omega
  have hl : Cert.KernelIdeal.Value.loc7Of (ix2 0 k) = ix2 0 ⟨(k : ℕ) % 1024, Nat.mod_lt _ (by decide)⟩ := by
    funext a; fin_cases a <;> rfl
  have hc : col ⟨_, hlt⟩ ⟨(k : ℕ) % 1024, Nat.mod_lt _ (by decide)⟩ = k := Fin.ext (by simp only [col]; omega)
  have e := point_mean m c h ⟨_, hlt⟩ ⟨(k : ℕ) % 1024, Nat.mod_lt _ (by decide)⟩
  rw [hc, show 256 * ((64 * ((k : ℕ) / 1024) + 63) % 64) + 256 = 16384 by omega] at e
  rw [Cert.KernelIdeal.Value.G7, dif_pos (hp ▸ hlt), ← Cert.KernelIdeal.Value.outsAt0_sweep m c _ (hp ▸ hlt), hl]
  simp only [hp]
  exact e

/-- The third result: the running variance after the last row. -/
theorem result_var (h : Launched m c X M N) (k : Fin 2048) :
    Cert.KernelIdeal.Value.G8 m c (ix2 0 k) = ((var (M k) (N k) (X k) 16384 : ℝ) : EReal) := by
  have hN : cfg0.N = 128 := N_0
  have hp : Cert.KernelIdeal.Value.pt8Of (ix2 0 k) = 64 * ((k : ℕ) / 1024) + 63 := by
    simp [Cert.KernelIdeal.Value.pt8Of, Cert.KernelIdeal.Value.run8Of]
  have hlt : 64 * ((k : ℕ) / 1024) + 63 < cfg0.N := by omega
  have hl : Cert.KernelIdeal.Value.loc8Of (ix2 0 k) = ix2 0 ⟨(k : ℕ) % 1024, Nat.mod_lt _ (by decide)⟩ := by
    funext a; fin_cases a <;> rfl
  have hc : col ⟨_, hlt⟩ ⟨(k : ℕ) % 1024, Nat.mod_lt _ (by decide)⟩ = k := Fin.ext (by simp only [col]; omega)
  have e := point_var m c h ⟨_, hlt⟩ ⟨(k : ℕ) % 1024, Nat.mod_lt _ (by decide)⟩
  rw [hc, show 256 * ((64 * ((k : ℕ) / 1024) + 63) % 64) + 256 = 16384 by omega] at e
  rw [Cert.KernelIdeal.Value.G8, dif_pos (hp ▸ hlt), ← Cert.KernelIdeal.Value.outsAt0_sweep m c _ (hp ▸ hlt), hl]
  simp only [hp]
  exact e

end OnlineNorm

end
-- ==== Proof.Finite.lean ====
/-
  What the precondition says of the three arguments: that they hold real numbers, and that every starting variance is
  above `-eps`.
-/
module

public import proofs.«01_k».proof.Pre_finite_inputs
public import proofs.«01_k».proof.Proof.Body
public import Idealize.ShloMosaic.Lib.ReduceAll
public import Idealize.ShloMosaic.Lib.Pointwise

@[expose] public section

noncomputable section

namespace OnlineNorm

open Idealize.ShloMosaic

/-- The pattern of the float infinity denotes the top element. -/
theorem ofBits_top : Ideal.ofBits .f32 0x7F800000#32 = ⊤ := by
  simp [Ideal.ofBits, Ideal.ieee]

/-- The pattern of the bound on the variance denotes `-eps`. -/
theorem ofBits_neg_eps : Ideal.ofBits .f32 0xB727C5AC#32 = ((-eps : ℝ) : EReal) := by
  simp [Ideal.ofBits, Ideal.ieee, -EReal.coe_mul, -EReal.coe_neg]; norm_num [eps]

/-- An extended real whose size is below the top is its own real part. -/
theorem coe_toReal_of_abs {a : EReal} (h : max a (-a) < ⊤) : a = ((a.toReal : ℝ) : EReal) := by
  induction a with
  | bot => simp at h
  | coe r => simp
  | top => simp at h

/-- An extended real between a real and the top is its own real part, which is above that real. -/
theorem coe_toReal_of_lt {a : EReal} {r : ℝ} (hr : (r : EReal) < a) (h : a < ⊤) :
    a = ((a.toReal : ℝ) : EReal) ∧ r < a.toReal := by
  induction a with
  | bot => simp at hr
  | coe s => exact ⟨by simp, by simpa using hr⟩
  | top => simp at h

/-- The bit of a decision is set when the decision is yes. -/
theorem ofBool_decide {p : Prop} [Decidable p] : (BitVec.ofBool (decide p) = 1#1) = p := by
  by_cases h : p <;> simp [h]

/-- Where the precondition is true the arguments are as `Inputs` says, for the real parts of their elements. -/
theorem inputs_of_pre [Cert.Pre_finite_inputs.Facts] (x : FVec Ideal ⟨2, ![16384, 2048]⟩ .f32)
    (μ ν : FVec Ideal ⟨1, ![2048]⟩ .f32) (h : Cert.Pre_finite_inputs.fn (F := Ideal) x μ ν = fun _ => 1#1) :
    Inputs x μ ν (fun k n => EReal.toReal (x (ix2 (Fin.ofNat _ n) (Fin.ofNat _ k))))
      (fun k => EReal.toReal (μ (ix1 (Fin.ofNat _ k)))) (fun k => EReal.toReal (ν (ix1 (Fin.ofNat _ k)))) := by
  have h0 := congrFun h ix0
  unfold Cert.Pre_finite_inputs.fn Cert.Pre_finite_inputs.fn_part1 at h0
  dsimp only at h0
  obtain ⟨h1, hν'⟩ := IntOp.andi_eq_one.1 h0
  obtain ⟨h2, hν⟩ := IntOp.andi_eq_one.1 h1
  obtain ⟨hx, hμ⟩ := IntOp.andi_eq_one.1 h2
  have ex (n : Fin 16384) (k : Fin 2048) := Host.reduce_andi_all _ _ _ _ _ hx (ix2 n k)
  have em (k : Fin 2048) := Host.reduce_andi_all _ _ _ _ _ hμ (ix1 k)
  have ev (k : Fin 2048) := Host.reduce_andi_all _ _ _ _ _ hν (ix1 k)
  have el (k : Fin 2048) := Host.reduce_andi_all _ _ _ _ _ hν' (ix1 k)
  simp only [cmpf, Ideal.cmpf_def, Ideal.cmp, Host.absf, Ideal.absf_def, constant, broadcastInDim, Ideal.ofBits_def,
    ofBits_top, ofBits_neg_eps, ofBool_decide] at ex em ev el
  have hf (n : Fin 16384) : Fin.ofNat 16384 (n : ℕ) = n := Fin.ext (Nat.mod_eq_of_lt n.isLt)
  have hg (k : Fin 2048) : Fin.ofNat 2048 (k : ℕ) = k := Fin.ext (Nat.mod_eq_of_lt k.isLt)
  constructor
  · intro n k; rw [hf, hg]; exact coe_toReal_of_abs (ex n k)
  · intro k; rw [hg]; exact coe_toReal_of_abs (em k)
  · intro k; rw [hg]; exact (coe_toReal_of_lt (el k) (ev k)).1
  · intro k; rw [hg]; exact (coe_toReal_of_lt (el k) (ev k)).2

end OnlineNorm

end
-- ==== Proof.Scan.lean ====
/-
  What the reference computes: before the `n`-th trip of its loop the carried buffers hold the running mean and variance
  of every column before row `n`, and the rows below `n` of its result are done.
-/
module

public import proofs.«01_k».proof.Proof.Gen.ReferenceIdeal.Run
public import proofs.«01_k».proof.Proof.Body
public import Idealize.ShloMosaic.Lib.Pointwise
public import Idealize.ShloMosaic.Lib.DynamicIndex

@[expose] public section

noncomputable section

namespace OnlineNorm

open Cert.ReferenceIdeal Cert.ReferenceIdeal.Gen Cert.ReferenceIdeal.Value
open Idealize.ShloMosaic Idealize.ShloMosaic.TcCoe Idealize.ShloMosaic.StableHlo

/-- The carried buffers before row `n`: the argument, the row number, the running mean and variance of every column, and
    the rows of the result before row `n`. -/
structure Scanned (V : Valuation τ sig (Elt Ideal)) (X : ℕ → ℕ → ℝ) (M N : ℕ → ℝ) (n : ℕ) : Prop where
  rows : ∀ (i : Fin 16384) (k : Fin 2048), V (Proc.devRef .tc main_v1_0) (ix2 i k) = ((X k i : ℝ) : EReal)
  count : V (Proc.devRef .tc main_v1_1) = fun _ => BitVec.ofNat 32 n
  mean : ∀ k : Fin 2048, V (Proc.devRef .tc main_v1_2) (ix1 k) = ((mean (M k) (X k) n : ℝ) : EReal)
  var : ∀ k : Fin 2048, V (Proc.devRef .tc main_v1_3) (ix1 k) = ((var (M k) (N k) (X k) n : ℝ) : EReal)
  done : ∀ (i : Fin 16384) (k : Fin 2048), (i : ℕ) < n → V (Proc.devRef .tc main_v1_4) (ix2 i k)
    = ((dev (M k) (X k) i / Real.sqrt (OnlineNorm.var (M k) (N k) (X k) i + eps) : ℝ) : EReal)

/-! ## A row read and a row written -/

section

variable {x : S16384x2048.Idx → EReal} {start : Fin 2 → ℤ} {n : ℕ}

/-- A row slice that starts at row `n` fits, so its start is where it says. -/
theorem start_row (h0 : start 0 = n) (hn : n < 16384) (ht : S1x2048.rank = S16384x2048.rank) :
    Host.clampedStart S16384x2048 S1x2048 ht start 0 = n :=
  Host.clampedStart_of_le ht start 0 n h0 (by show n + 1 ≤ 16384; omega)

theorem start_col (h1 : start 1 = 0) (ht : S1x2048.rank = S16384x2048.rank) :
    Host.clampedStart S16384x2048 S1x2048 ht start 1 = 0 :=
  Host.clampedStart_of_le ht start 1 0 h1 (by show 0 + 2048 ≤ 2048; omega)

/-- The slice that starts at row `n` is row `n`. -/
theorem read_at (h0 : start 0 = n) (h1 : start 1 = 0) (hn : n < 16384) (fits : S16384x2048.Slices (fun _ => 0) S1x2048)
    (k : Fin 2048) : Host.dynamicSlice S1x2048 x start fits (ix2 0 k) = x (ix2 ⟨n, hn⟩ k) := by
  rw [Host.dynamicSlice_apply]
  refine congrArg x (funext fun a => Fin.ext ?_)
  fin_cases a
  · show Host.clampedStart S16384x2048 S1x2048 _ start 0 + 0 = n
    rw [start_row h0 hn, Nat.add_zero]
  · show Host.clampedStart S16384x2048 S1x2048 _ start 1 + (k : ℕ) = k
    rw [start_col h1, Nat.zero_add]

/-- The update that starts at row `n` changes row `n` and no other. -/
theorem write_at {upd : S1x2048.Idx → EReal} (h0 : start 0 = n) (h1 : start 1 = 0) (hn : n < 16384)
    (fits : S16384x2048.Slices (fun _ => 0) S1x2048) (i : Fin 16384) (k : Fin 2048) :
    Host.dynamicUpdateSlice x upd start fits (ix2 i k) = if (i : ℕ) = n then upd (ix2 0 k) else x (ix2 i k) := by
  rw [Host.dynamicUpdateSlice_apply]
  by_cases hi : (i : ℕ) = n
  · rw [if_pos hi, dif_pos]
    · refine congrArg upd (funext fun a => Fin.ext ?_)
      fin_cases a
      · show (i : ℕ) - Host.clampedStart S16384x2048 S1x2048 _ start 0 = 0
        rw [start_row h0 hn, hi, Nat.sub_self]
      · show (k : ℕ) - Host.clampedStart S16384x2048 S1x2048 _ start 1 = k
        rw [start_col h1, Nat.sub_zero]
    · intro a
      fin_cases a
      · show Host.clampedStart S16384x2048 S1x2048 _ start 0 ≤ (i : ℕ)
          ∧ (i : ℕ) < Host.clampedStart S16384x2048 S1x2048 _ start 0 + 1
        rw [start_row h0 hn]; omega
      · show Host.clampedStart S16384x2048 S1x2048 _ start 1 ≤ (k : ℕ)
          ∧ (k : ℕ) < Host.clampedStart S16384x2048 S1x2048 _ start 1 + 2048
        rw [start_col h1]; omega
  · rw [if_neg hi, dif_neg]
    intro hin
    have h : Host.clampedStart S16384x2048 S1x2048 fits.1 start 0 ≤ (i : ℕ)
        ∧ (i : ℕ) < Host.clampedStart S16384x2048 S1x2048 fits.1 start 0 + 1 := hin 0
    rw [start_row h0 hn] at h; omega

end

/-! ## One trip -/

section

variable {V : Valuation τ sig (Elt Ideal)} {X : ℕ → ℕ → ℝ} {M N : ℕ → ℝ} {n : ℕ}

/-- The row that a trip's slice and update start at. -/
theorem scan_start (h : Scanned V X M N n) (hn : n < 16384) (i : S_.Idx) :
    (V (Proc.devRef .tc main_v1_1) i : BitVec 32).toInt = n := by
  rw [h.count]; exact toInt_ofNat_of_lt (by omega)

/-- The row that a trip reads. -/
theorem scan_row (h : Scanned V X M N n) (hn : n < 16384) (k : Fin 2048) :
    res_main_while0b_v4 V (ix1 k) = ((X k n : ℝ) : EReal) := by
  unfold res_main_while0b_v4
  refine Eq.trans ?_ ((read_at (start := fun a => BitVec.toInt ((![V (Proc.devRef .tc main_v1_1), constantI S_ 32 0#32] :
    Fin 2 → S_.Idx → BitVec 32) a (Shape.Idx.first h_S_))) (scan_start h hn _) rfl hn sliceFits_S16384x2048_S1x2048 k).trans
    (h.rows ⟨n, hn⟩ k))
  pointwise
  rfl

/-- The factor that a trip keeps of the running mean and variance. -/
theorem scan_decay : res_main_while0b_v5 V ix0 = ((decay : ℝ) : EReal) := div_decay

/-- The distance of the row from the running mean. -/
theorem scan_dev (h : Scanned V X M N n) (hn : n < 16384) (k : Fin 2048) :
    res_main_while0b_v11 V (ix1 k) = ((dev (M k) (X k) n : ℝ) : EReal) := by
  unfold res_main_while0b_v11
  pointwise
  rw [scan_row h hn k, h.mean k, ← EReal.coe_sub]; rfl

theorem scan_count (h : Scanned V X M N n) :
    STEP V (Proc.devRef .tc main_v1_1) = fun _ => BitVec.ofNat 32 (n + 1) := by
  rw [STEP_main_v1_1, step_main_v1_1, h.count]
  funext i
  show BitVec.ofNat 32 n + 1#32 = _
  rw [BitVec.ofNat_add]

/-- The running mean after the trip. -/
theorem scan_mean (h : Scanned V X M N n) (hn : n < 16384) (k : Fin 2048) :
    STEP V (Proc.devRef .tc main_v1_2) (ix1 k) = ((mean (M k) (X k) (n + 1) : ℝ) : EReal) := by
  rw [STEP_main_v1_2, step_main_v1_2, id_eq]
  pointwise
  rw [h.mean, scan_decay, scan_dev h hn, ← EReal.coe_one, ← EReal.coe_sub, one_sub_decay, ← EReal.coe_mul, ← EReal.coe_add]
  rfl

/-- The running variance after the trip. -/
theorem scan_var (h : Scanned V X M N n) (hn : n < 16384) (k : Fin 2048) :
    STEP V (Proc.devRef .tc main_v1_3) (ix1 k) = ((var (M k) (N k) (X k) (n + 1) : ℝ) : EReal) := by
  rw [STEP_main_v1_3, step_main_v1_3, id_eq]
  pointwise
  rw [h.var, scan_decay, scan_dev h hn, ← EReal.coe_one, ← EReal.coe_sub, one_sub_decay]
  simp only [← EReal.coe_mul, ← EReal.coe_add]
  rw [mul_assoc (decay * fresh)]
  rfl

/-- The row that the trip writes. -/
theorem scan_new (h : Scanned V X M N n) (hn : n < 16384) (hN : ∀ k : Fin 2048, -eps < N k) (k : Fin 2048) :
    Host.divf (F := Ideal) (subf (res_main_while0b_v4 V) (V (Proc.devRef .tc main_v1_2)))
        (Host.sqrt (addf (V (Proc.devRef .tc main_v1_3)) (broadcastInDim S2048 ![] bcast_S_S2048
          (constant S_ .f32 0x3727C5AC#32)))) (ix1 k)
      = ((dev (M k) (X k) n / Real.sqrt (var (M k) (N k) (X k) n + eps) : ℝ) : EReal) := by
  have hp : 0 < var (M k) (N k) (X k) n + eps := by
    have := neg_lt_var (M k) (N k) (X k) eps_pos (hN k) n
    linarith
  pointwise
  rw [scan_row h hn, h.mean, h.var, ofBits_eps, ← EReal.coe_sub, ← EReal.coe_add, Ideal.sqrt_coe, if_neg hp.le.not_gt,
    Ideal.div_coe (Real.sqrt_pos.2 hp).ne', ← EReal.coe_mul, mul_one_div]
  rfl

/-- The result after the trip. -/
theorem scan_done (h : Scanned V X M N n) (hn : n < 16384) (hN : ∀ k : Fin 2048, -eps < N k) (i : Fin 16384) (k : Fin 2048)
    (hi : (i : ℕ) < n + 1) : STEP V (Proc.devRef .tc main_v1_4) (ix2 i k)
      = ((dev (M k) (X k) i / Real.sqrt (var (M k) (N k) (X k) i + eps) : ℝ) : EReal) := by
  rw [STEP_main_v1_4, step_main_v1_4, id_eq]
  refine (write_at (scan_start h hn _) rfl hn updateFits_S16384x2048_S1x2048 i k).trans ?_
  by_cases e : (i : ℕ) = n
  · rw [if_pos e, e, ← scan_new h hn hN k]
    pointwise
  · rw [if_neg e]
    exact h.done i k (by omega)

end

variable (m : (ℓ : Loc nD τ sig) → Buf (Elt Ideal) ℓ) (c : Dev nD) {X : ℕ → ℕ → ℝ} {M N : ℕ → ℝ}

/-- Before the first row. -/
theorem scanned_entry (h : Inputs (m ((c : Thread nD τ).loc main_arg0)) (m ((c : Thread nD τ).loc main_arg1))
    (m ((c : Thread nD τ).loc main_arg2)) X M N) : Scanned (entryContents preI m c) X M N 0 where
  rows i k := by
    simp only [entryContents, afterL_cons, afterL_nil]
    after_reads_simp
    exact h.rows i k
  count := ctr_entry m c
  mean k := by
    simp only [entryContents, afterL_cons, afterL_nil]
    after_reads_simp
    exact h.mean k
  var k := by
    simp only [entryContents, afterL_cons, afterL_nil]
    after_reads_simp
    exact h.var k
  done _ _ hi := absurd hi (Nat.not_lt_zero _)

/-- Before every row. -/
theorem scanned (h : Inputs (m ((c : Thread nD τ).loc main_arg0)) (m ((c : Thread nD τ).loc main_arg1))
    (m ((c : Thread nD τ).loc main_arg2)) X M N) (n : ℕ) (hn : n ≤ 16384) :
    Scanned (STEP^[n] (entryContents preI m c)) X M N n := by
  induction n with
  | zero => exact scanned_entry m c h
  | succ n ih =>
    have h' := ih (by omega)
    rw [Function.iterate_succ_apply']
    exact ⟨fun i k => (congrFun (STEP_main_v1_0 _) _).trans (h'.rows i k), scan_count h', scan_mean h' hn, scan_var h' hn,
      scan_done h' hn h.pos⟩

/-! ## The results -/

/-- The contents after the last trip, as `Scanned` says. -/
theorem scanned_last (h : Inputs (m ((c : Thread nD τ).loc main_arg0)) (m ((c : Thread nD τ).loc main_arg1))
    (m ((c : Thread nD τ).loc main_arg2)) X M N) : Scanned (STEP^[16384] (entryContents preI m c)) X M N 16384 :=
  scanned m c h 16384 le_rfl

/-- The reference's second result: the running mean after the last row. -/
theorem scanned_mean (h : Inputs (m ((c : Thread nD τ).loc main_arg0)) (m ((c : Thread nD τ).loc main_arg1))
    (m ((c : Thread nD τ).loc main_arg2)) X M N) (k : Fin 2048) :
    out_main_v2 (STEP^[16384] (entryContents preI m c)) (ix2 0 k) = ((mean (M k) (X k) 16384 : ℝ) : EReal) := by
  rw [← (scanned_last m c h).mean k, out_main_v2]
  pointwise

/-- The reference's third result: the running variance after the last row. -/
theorem scanned_var (h : Inputs (m ((c : Thread nD τ).loc main_arg0)) (m ((c : Thread nD τ).loc main_arg1))
    (m ((c : Thread nD τ).loc main_arg2)) X M N) (k : Fin 2048) :
    out_main_v3 (STEP^[16384] (entryContents preI m c)) (ix2 0 k) = ((var (M k) (N k) (X k) 16384 : ℝ) : EReal) := by
  rw [← (scanned_last m c h).var k, out_main_v3]
  pointwise

end OnlineNorm

end
-- ==== Proof.lean ====
/-
  The certificate's claims. The frames are the generated ones; the named constants of the idealized kernel have the values
  the table gives them; and over the extended reals, from inputs that the precondition admits, the kernel and the
  reference leave the same three results: the normalised rows, the running mean and the running variance
  (`OnlineNorm.result_out`, `result_mean`, `result_var` for the kernel, `OnlineNorm.scanned_last`, `scanned_mean`,
  `scanned_var` for the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Finite
public import proofs.«01_k».proof.Proof.Scan
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem OnlineNorm

/-- The reference changes no argument and leaves every semaphore counter at zero. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- Every named constant of the idealized kernel denotes the number that the table gives its name. -/
theorem preserves : Cert.preserves_Kernel_KernelIdeal :=
  ⟨IdealRules.named_const.statement Cert.KernelIdeal.κ "aoma" .f32 0x3A82F0E1#32 _ rfl,
   IdealRules.named_const.statement Cert.KernelIdeal.κ "a256" .f32 0x3F4627AC#32 _ rfl,
   IdealRules.named_const.statement Cert.KernelIdeal.κ "a" .f32 0x3F7FBE77#32 _ rfl⟩

/-- Two arrays of two axes are equal when their entries are. -/
theorem eq_of_entries {a b : ℕ} {f g : (⟨2, ![a, b]⟩ : Shape).Idx → EReal} (h : ∀ n k, f (ix2 n k) = g (ix2 n k)) : f = g :=
  funext fun i => by rw [eq_ix2 i]; exact h _ _

/-- The kernel and the reference, from equal arguments that the precondition admits, end with equal results. -/
theorem algebraic : Cert.algebraic_KernelIdeal_ReferenceIdeal_pre_finite_inputs := by
  intro m ρ m' ρ' hpre hagree
  refine ⟨_, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨X, M, N, hk⟩ : ∃ X M N, Launched m c X M N := ⟨_, _, _, inputs_of_pre _ _ _ (hpre c)⟩
  have hr : Inputs _ _ _ X M N := hk
  rw [← (hagree c).1, ← (hagree c).2.1, ← (hagree c).2.2] at hr
  obtain ⟨e0, e1, e2, rest⟩ := h c
  refine ⟨e0.trans (eq_of_entries fun n k => ?_), e1.trans (eq_of_entries fun n k => ?_),
    e2.trans (eq_of_entries fun n k => ?_), rest⟩
  · exact ((scanned_last m' c hr).done n k n.isLt).trans (result_out m c hk n k).symm
  · obtain rfl : n = (0 : Fin 1) := Subsingleton.elim (α := Fin 1) _ _
    exact (scanned_mean m' c hr k).trans (result_mean m c hk k).symm
  · obtain rfl : n = (0 : Fin 1) := Subsingleton.elim (α := Fin 1) _ _
    exact (scanned_var m' c hr k).trans (result_var m c hk k).symm

/-- Everything the certificate claims. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    preserves, algebraic⟩

end Cert.Proof

end
